-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_from_zero [hPre_positions_from_zero : Cert.Pre_positions_from_zero.Facts] (m : (ℓ : Loc Cert.KernelIdeal.nD Cert.KernelIdeal.τ Cert.KernelIdeal.sig) → Buf (Elt Ideal) ℓ) : Prop :=
  ∀ c : Dev Cert.KernelIdeal.nD,
    (Cert.Pre_positions_from_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_from_zero [hPre_positions_from_zero : Cert.Pre_positions_from_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_from_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_positions_from_zero [hKernelIdeal : Cert.KernelIdeal.Facts] [hPre_positions_from_zero : Cert.Pre_positions_from_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_from_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_positions_from_zero [hReferenceIdeal : Cert.ReferenceIdeal.Facts] [hPre_positions_from_zero : Cert.Pre_positions_from_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_from_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_positions_from_zero [hKernelIdeal : Cert.KernelIdeal.Facts] [hReferenceIdeal : Cert.ReferenceIdeal.Facts] [hPre_positions_from_zero : Cert.Pre_positions_from_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_from_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_positions_from_zero : Cert.Pre_positions_from_zero.Facts),
    quiescent_Kernel (hKernel := hKernel)
    ∧ quiescent_KernelIdeal (hKernelIdeal := hKernelIdeal)
    ∧ quiescent_KernelIdeal_pre_positions_from_zero (hKernelIdeal := hKernelIdeal) (hPre_positions_from_zero := hPre_positions_from_zero)
    ∧ quiescent_ReferenceIdeal (hReferenceIdeal := hReferenceIdeal)
    ∧ quiescent_ReferenceIdeal_pre_positions_from_zero (hReferenceIdeal := hReferenceIdeal) (hPre_positions_from_zero := hPre_positions_from_zero)
    ∧ preserves_Kernel_KernelIdeal
    ∧ algebraic_KernelIdeal_ReferenceIdeal_pre_positions_from_zero (hKernelIdeal := hKernelIdeal) (hReferenceIdeal := hReferenceIdeal) (hPre_positions_from_zero := hPre_positions_from_zero)
-- ==== Pre_positions_from_zero.lean ====
abbrev S16 : Shape := ⟨1, ![16]⟩
abbrev S8x16x16x128 : Shape := ⟨4, ![8, 16, 16, 128]⟩
abbrev S8x16x2048x128 : Shape := ⟨4, ![8, 16, 2048, 128]⟩
abbrev S8x16x2048x1 : Shape := ⟨4, ![8, 16, 2048, 1]⟩

class Facts : Prop where

variable [Facts]

def fn {F : FTy → Type} [FloatOps F] (main_arg0 : IVec S16 32) (main_arg1 : FVec F S8x16x16x128 .f32) (main_arg2 : FVec F S8x16x16x128 .f32) (main_arg3 : IVec S8x16x2048x128 8) (main_arg4 : IVec S8x16x2048x128 8) (main_arg5 : FVec F S8x16x2048x1 .bf16) (main_arg6 : FVec F S8x16x2048x1 .bf16) : IVec S16 1 :=
  let main_v0 : IVec S16 32 := iotaInDim S16 32 0
  let main_v1 : IVec S16 1 := cmpi .eq main_arg0 main_v0
  main_v1
-- ==== Kernel.lean ====
abbrev S16 : Shape := ⟨1, ![16]⟩
abbrev S8x16x16x128 : Shape := ⟨4, ![8, 16, 16, 128]⟩
abbrev S8x16x2048x128 : Shape := ⟨4, ![8, 16, 2048, 128]⟩
abbrev S8x16x2048x1 : Shape := ⟨4, ![8, 16, 2048, 1]⟩
abbrev S128x2048x128 : Shape := ⟨3, ![128, 2048, 128]⟩
abbrev S8x1x32768 : Shape := ⟨3, ![8, 1, 32768]⟩
abbrev S128x16x128 : Shape := ⟨3, ![128, 16, 128]⟩
abbrev S16x2048x128 : Shape := ⟨3, ![16, 2048, 128]⟩
abbrev S1x1x32768 : Shape := ⟨3, ![1, 1, 32768]⟩
abbrev S16x16x128 : Shape := ⟨3, ![16, 16, 128]⟩
abbrev S1x32768 : Shape := ⟨2, ![1, 32768]⟩
abbrev S1x128 : Shape := ⟨2, ![1, 128]⟩
abbrev S32768x128 : Shape := ⟨2, ![32768, 128]⟩

abbrev nBuf : Space → Nat
  | .hbm => 17
  | .vmem => 16
  | .smem => 0
  | _ => 0

abbrev bufTy : (tb : Table) → Fin (tcTables nBuf tb) → BufTy
  | .hbm, ⟨0, _⟩ => ⟨S16, .i32⟩
  | .hbm, ⟨1, _⟩ => ⟨S8x16x16x128, .f32⟩
  | .hbm, ⟨2, _⟩ => ⟨S8x16x16x128, .f32⟩
  | .hbm, ⟨3, _⟩ => ⟨S8x16x2048x128, .i8⟩
  | .hbm, ⟨4, _⟩ => ⟨S8x16x2048x128, .i8⟩
  | .hbm, ⟨5, _⟩ => ⟨S8x16x2048x1, .bf16⟩
  | .hbm, ⟨6, _⟩ => ⟨S8x16x2048x1, .bf16⟩
  | .hbm, ⟨7, _⟩ => ⟨S128x2048x128, .i8⟩
  | .hbm, ⟨8, _⟩ => ⟨S128x2048x128, .i8⟩
  | .hbm, ⟨9, _⟩ => ⟨S8x1x32768, .bf16⟩
  | .hbm, ⟨10, _⟩ => ⟨S8x1x32768, .bf16⟩
  | .hbm, ⟨11, _⟩ => ⟨S128x16x128, .f32⟩
  | .hbm, ⟨12, _⟩ => ⟨S128x16x128, .f32⟩
  | .hbm, ⟨13, _⟩ => ⟨S128x2048x128, .bf16⟩
  | .hbm, ⟨14, _⟩ => ⟨S128x2048x128, .bf16⟩
  | .hbm, ⟨15, _⟩ => ⟨S8x16x2048x128, .bf16⟩
  | .hbm, ⟨16, _⟩ => ⟨S8x16x2048x128, .bf16⟩
  | .local _ .vmem, ⟨0, _⟩ => ⟨S16x2048x128, .i8⟩
  | .local _ .vmem, ⟨1, _⟩ => ⟨S16x2048x128, .i8⟩
  | .local _ .vmem, ⟨2, _⟩ => ⟨S1x1x32768, .bf16⟩
  | .local _ .vmem, ⟨3, _⟩ => ⟨S1x1x32768, .bf16⟩
  | .local _ .vmem, ⟨4, _⟩ => ⟨S16x16x128, .f32⟩
  | .local _ .vmem, ⟨5, _⟩ => ⟨S16x16x128, .f32⟩
  | .local _ .vmem, ⟨6, _⟩ => ⟨S16x2048x128, .i8⟩
  | .local _ .vmem, ⟨7, _⟩ => ⟨S16x2048x128, .i8⟩
  | .local _ .vmem, ⟨8, _⟩ => ⟨S1x1x32768, .bf16⟩
  | .local _ .vmem, ⟨9, _⟩ => ⟨S1x1x32768, .bf16⟩
  | .local _ .vmem, ⟨10, _⟩ => ⟨S16x16x128, .f32⟩
  | .local _ .vmem, ⟨11, _⟩ => ⟨S16x16x128, .f32⟩
  | .local _ .vmem, ⟨12, _⟩ => ⟨S16x2048x128, .bf16⟩
  | .local _ .vmem, ⟨13, _⟩ => ⟨S16x2048x128, .bf16⟩
  | .local _ .vmem, ⟨14, _⟩ => ⟨S16x2048x128, .bf16⟩
  | .local _ .vmem, ⟨15, _⟩ => ⟨S16x2048x128, .bf16⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x32768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16 : Shape := ⟨1, ![16]⟩
abbrev S8x16x16x128 : Shape := ⟨4, ![8, 16, 16, 128]⟩
abbrev S8x16x2048x128 : Shape := ⟨4, ![8, 16, 2048, 128]⟩
abbrev S8x16x2048x1 : Shape := ⟨4, ![8, 16, 2048, 1]⟩
abbrev S_ : Shape := ⟨0, ![]⟩
abbrev S8x16x16 : Shape := ⟨3, ![8, 16, 16]⟩
abbrev S8x16x16x1 : Shape := ⟨4, ![8, 16, 16, 1]⟩
abbrev S16x1 : Shape := ⟨2, ![16, 1]⟩

abbrev nBuf : Space → Nat
  | .hbm => 121
  | .vmem => 0
  | .smem => 0
  | _ => 0

abbrev bufTy : (tb : Table) → Fin (tcTables nBuf tb) → BufTy
  | .hbm, ⟨0, _⟩ => ⟨S16, .i32⟩
  | .hbm, ⟨1, _⟩ => ⟨S8x16x16x128, .f32⟩
  | .hbm, ⟨2, _⟩ => ⟨S8x16x16x128, .f32⟩
  | .hbm, ⟨3, _⟩ => ⟨S8x16x2048x128, .i8⟩
  | .hbm, ⟨4, _⟩ => ⟨S8x16x2048x128, .i8⟩
  | .hbm, ⟨5, _⟩ => ⟨S8x16x2048x1, .bf16⟩
  | .hbm, ⟨6, _⟩ => ⟨S8x16x2048x1, .bf16⟩
  | .hbm, ⟨7, _⟩ => ⟨S8x16x16x128, .f32⟩
  | .hbm, ⟨8, _⟩ => ⟨S_, .f32⟩
  | .hbm, ⟨9, _⟩ => ⟨S8x16x16, .f32⟩
  | .hbm, ⟨10, _⟩ => ⟨S_, .f32⟩
  | .hbm, ⟨11, _⟩ => ⟨S8x16x16, .f32⟩
  | .hbm, ⟨12, _⟩ => ⟨S8x16x16, .f32⟩
  | .hbm, ⟨13, _⟩ => ⟨S_, .f32⟩
  | .hbm, ⟨14, _⟩ => ⟨S8x16x16, .f32⟩
  | .hbm, ⟨15, _⟩ => ⟨S8x16x16, .f32⟩
  | .hbm, ⟨16, _⟩ => ⟨S8x16x16x1, .f32⟩
  | .hbm, ⟨17, _⟩ => ⟨S8x16x16x128, .f32⟩
  | .hbm, ⟨18, _⟩ => ⟨S8x16x16x128, .f32⟩
  | .hbm, ⟨19, _⟩ => ⟨S8x16x16x128, .f32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S8x16x16x128, .f32⟩
  | .hbm, ⟨24, _⟩ => ⟨S8x16x16x128, .f32⟩
  | .hbm, ⟨25, _⟩ => ⟨S_, .f32⟩
  | .hbm, ⟨26, _⟩ => ⟨S8x16x16x128, .f32⟩
  | .hbm, ⟨27, _⟩ => ⟨S8x16x16x128, .f32⟩
  | .hbm, ⟨28, _⟩ => ⟨S8x16x16x128, .i32⟩
  | .hbm, ⟨29, _⟩ => ⟨S8x16x16x128, .i8⟩
  | .hbm, ⟨30, _⟩ => ⟨S_, .i32⟩
  | .hbm, ⟨31, _⟩ => ⟨S16, .i32⟩
  | .hbm, ⟨32, _⟩ => ⟨S16, .i1⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S16, .i32⟩
  | .hbm, ⟨37, _⟩ => ⟨S16x1, .i32⟩
  | .hbm, ⟨38, _⟩ => ⟨S8x16x2048x128, .i8⟩
  | .hbm, ⟨39, _⟩ => ⟨S8x16x16x1, .f32⟩
  | .hbm, ⟨40, _⟩ => ⟨S8x16x16x1, .bf16⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S16x1, .i32⟩
  | .hbm, ⟨49, _⟩ => ⟨S8x16x2048x1, .bf16⟩
  | .hbm, ⟨50, _⟩ => ⟨S8x16x2048x128, .i32⟩
  | .hbm, ⟨51, _⟩ => ⟨S8x16x2048x128, .bf16⟩
  | .hbm, ⟨52, _⟩ => ⟨S8x16x2048x128, .bf16⟩
  | .hbm, ⟨53, _⟩ => ⟨S8x16x2048x128, .bf16⟩
  | .hbm, ⟨54, _⟩ => ⟨S8x16x16x128, .bf16⟩
  | .hbm, ⟨55, _⟩ => ⟨S_, .i32⟩
  | .hbm, ⟨56, _⟩ => ⟨S16, .i32⟩
  | .hbm, ⟨57, _⟩ => ⟨S16, .i1⟩
  | .hbm, ⟨58, _⟩ => ⟨S_, .i32⟩
  | .hbm, ⟨59, _⟩ => ⟨S16, .i32⟩
  | .hbm, ⟨60, _⟩ => ⟨S16, .i32⟩
  | .hbm, ⟨61, _⟩ => ⟨S16, .i32⟩
  | .hbm, ⟨62, _⟩ => ⟨S16x1, .i32⟩
  | .hbm, ⟨63, _⟩ => ⟨S8x16x2048x128, .bf16⟩
  | .hbm, ⟨64, _⟩ => ⟨S8x16x16x128, .f32⟩
  | .hbm, ⟨65, _⟩ => ⟨S_, .f32⟩
  | .hbm, ⟨66, _⟩ => ⟨S8x16x16, .f32⟩
  | .hbm, ⟨67, _⟩ => ⟨S_, .f32⟩
  | .hbm, ⟨68, _⟩ => ⟨S8x16x16, .f32⟩
  | .hbm, ⟨69, _⟩ => ⟨S8x16x16, .f32⟩
  | .hbm, ⟨70, _⟩ => ⟨S_, .f32⟩
  | .hbm, ⟨71, _⟩ => ⟨S8x16x16, .f32⟩
  | .hbm, ⟨72, _⟩ => ⟨S8x16x16, .f32⟩
  | .hbm, ⟨73, _⟩ => ⟨S8x16x16x1, .f32⟩
  | .hbm, ⟨74, _⟩ => ⟨S8x16x16x128, .f32⟩
  | .hbm, ⟨75, _⟩ => ⟨S8x16x16x128, .f32⟩
  | .hbm, ⟨76, _⟩ => ⟨S8x16x16x128, .f32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S8x16x16x128, .f32⟩
  | .hbm, ⟨81, _⟩ => ⟨S8x16x16x128, .f32⟩
  | .hbm, ⟨82, _⟩ => ⟨S_, .f32⟩
  | .hbm, ⟨83, _⟩ => ⟨S8x16x16x128, .f32⟩
  | .hbm, ⟨84, _⟩ => ⟨S8x16x16x128, .f32⟩
  | .hbm, ⟨85, _⟩ => ⟨S8x16x16x128, .i32⟩
  | .hbm, ⟨86, _⟩ => ⟨S8x16x16x128, .i8⟩
  | .hbm, ⟨87, _⟩ => ⟨S_, .i32⟩
  | .hbm, ⟨88, _⟩ => ⟨S16, .i32⟩
  | .hbm, ⟨89, _⟩ => ⟨S16, .i1⟩
  | .hbm, ⟨90, _⟩ => ⟨S_, .i32⟩
  | .hbm, ⟨91, _⟩ => ⟨S16, .i32⟩
  | .hbm, ⟨92, _⟩ => ⟨S16, .i32⟩
  | .hbm, ⟨93, _⟩ => ⟨S16, .i32⟩
  | .hbm, ⟨94, _⟩ => ⟨S16x1, .i32⟩
  | .hbm, ⟨95, _⟩ => ⟨S8x16x2048x128, .i8⟩
  | .hbm, ⟨96, _⟩ => ⟨S8x16x16x1, .f32⟩
  | .hbm, ⟨97, _⟩ => ⟨S8x16x16x1, .bf16⟩
  | .hbm, ⟨98, _⟩ => ⟨S_, .i32⟩
  | .hbm, ⟨99, _⟩ => ⟨S16, .i32⟩
  | .hbm, ⟨100, _⟩ => ⟨S16, .i1⟩
  | .hbm, ⟨101, _⟩ => ⟨S_, .i32⟩
  | .hbm, ⟨102, _⟩ => ⟨S16, .i32⟩
  | .hbm, ⟨103, _⟩ => ⟨S16, .i32⟩
  | .hbm, ⟨104, _⟩ => ⟨S16, .i32⟩
  | .hbm, ⟨105, _⟩ => ⟨S16x1, .i32⟩
  | .hbm, ⟨106, _⟩ => ⟨S8x16x2048x1, .bf16⟩
  | .hbm, ⟨107, _⟩ => ⟨S8x16x2048x128, .i32⟩
  | .hbm, ⟨108, _⟩ => ⟨S8x16x2048x128, .bf16⟩
  | .hbm, ⟨109, _⟩ => ⟨S8x16x2048x128, .bf16⟩
  | .hbm, ⟨110, _⟩ => ⟨S8x16x2048x128, .bf16⟩
  | .hbm, ⟨111, _⟩ => ⟨S8x16x16x128, .bf16⟩
  | .hbm, ⟨112, _⟩ => ⟨S_, .i32⟩
  | .hbm, ⟨113, _⟩ => ⟨S16, .i32⟩
  | .hbm, ⟨114, _⟩ => ⟨S16, .i1⟩
  | .hbm, ⟨115, _⟩ => ⟨S_, .i32⟩
  | .hbm, ⟨116, _⟩ => ⟨S16, .i32⟩
  | .hbm, ⟨117, _⟩ => ⟨S16, .i32⟩
  | .hbm, ⟨118, _⟩ => ⟨S16, .i32⟩
  | .hbm, ⟨119, _⟩ => ⟨S16x1, .i32⟩
  | .hbm, ⟨120, _⟩ => ⟨S8x16x2048x128, .bf16⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_c_13 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_14 : Ref sig .tc := ⟨.hbm, 87, rfl⟩
abbrev main_v54 : Ref sig .tc := ⟨.hbm, 88, rfl⟩
abbrev main_v55 : Ref sig .tc := ⟨.hbm, 89, rfl⟩
abbrev main_c_15 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_c_17 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_c_19 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Proof.Block.lean ====
/-
  WHAT ONE GRID POINT COMPUTES. Both outputs are written the same way: the whole block with the dequantized cache
  (the int8 block times its scales, the scales spread along the lanes by a product with a row of ones), then the first
  16 positions of every head overwritten with the new values. `blockOut` is that block as a function of the three input
  blocks, and `canon_stores` says that the two stores leave it, for the K and for the V output alike.
-/
module

public import proofs.«01_k».proof.Proof.Gen.KernelIdeal.Frame
public import Idealize.ShloMosaic.Lib.Pipeline.ValueKit
public import Idealize.ShloMosaic.Lib.Pointwise

@[expose] public section

noncomputable section

namespace Cert.KvCache

open Idealize.ShloMosaic
open Cert.KernelIdeal Cert.KernelIdeal.Gen

/-- Where the scale of head `a` and position `b` of a block lies in the block's row of scales. -/
abbrev scaleIdx (a : Fin 16) (b : Fin 2048) : S1x1x32768.Idx := ix3 0 0 ⟨a.val * 2048 + b.val, by omega⟩

/-- The block that a grid point leaves in an output: at positions below 16 the new values, elsewhere the cached integer
    times the scale of its head and position. -/
def blockOut (cache : Vec Ideal S16x2048x128 .i8) (scale : Vec Ideal S1x1x32768 .bf16) (new : Vec Ideal S16x16x128 .f32) :
    Vec Ideal S16x2048x128 .bf16 := fun j =>
  if h : (j 1).val < 16 then new (ix3 (j 0) ⟨(j 1).val, h⟩ (j 2))
  else FloatOps.sitofp (F := Ideal) .bf16 (cache j) * scale (scaleIdx (j 0) (j 1))

/-- The dequantized block at an index: the cached integer times the scale of its head and position. The product with the
    row of ones is a sum of one term. -/
theorem dequant_apply (scale : Vec Ideal S1x1x32768 .bf16) (cache : Vec Ideal S16x2048x128 .i8) (j : S16x2048x128.Idx) :
    k0_pay2 (F := Ideal) scale cache j = FloatOps.sitofp (F := Ideal) .bf16 (cache j) * scale (scaleIdx (j 0) (j 1)) := by
  unfold k0_pay2
  pointwise
  rw [Finset.sum_const, Finset.card_univ, Fintype.card_fin, one_smul]

/-- The new values are stored as they are read (a change of float format is the identity). -/
theorem new_eq (new : Vec Ideal S16x16x128 .f32) : k0_pay4 (F := Ideal) new = new := by
  funext j
  unfold k0_pay4
  pointwise

/-- The dequantized block stored whole and then the new values over its first 16 positions leave `blockOut`. -/
theorem canon_stores (cache : Vec Ideal S16x2048x128 .i8) (scale : Vec Ideal S1x1x32768 .bf16) (new : Vec Ideal S16x16x128 .f32)
    (inbNew : ∀ a, (![0, 0, 0] : Fin 3 → Nat) a + S16x16x128.size a ≤ S16x2048x128.size a) :
    View.canon [(⟨Rect.unit (s := S16x2048x128) ![0, 0, 0] S16x16x128.size inbNew, k0_pay4 (F := Ideal) new⟩ : View.Piece (Elt Ideal) S16x2048x128 .bf16),
        ⟨Rect.unit (s := S16x2048x128) ![0, 0, 0] S16x2048x128.size inb_S16x2048x128_S16x2048x128_0_0_0, k0_pay2 (F := Ideal) scale cache⟩]
      = blockOut cache scale new := by
  funext j
  unfold blockOut
  by_cases h : (j 1).val < 16
  · have e : (Rect.unit (s := S16x2048x128) ![0, 0, 0] S16x16x128.size inbNew).emb (ix3 (j 0) ⟨(j 1).val, h⟩ (j 2)) = j := by
      funext a
      refine Fin.ext ?_
      match a with
      | ⟨0, _⟩ | ⟨1, _⟩ | ⟨2, _⟩ => exact (Nat.zero_add _).trans (Nat.one_mul _)
    rw [dif_pos h, new_eq]
    exact (congrArg _ e.symm).trans (View.canon_cons_emb _ _ _ _)
  · rw [dif_neg h, View.canon_cons_of_not_mem, View.canon_cons_unit_lit _ _ _ (by decide), dequant_apply]
    rw [Rect.mem_set_unit]
    exact fun q => h (by have := (q 1).2; simpa using this)

variable (m : (ℓ : Loc nD τ sig) → Buf (Elt Ideal) ℓ)

/-- After grid point `t` the K output's block is `blockOut` of the K inputs' blocks. -/
theorem after_k (c : Dev nD) (t : Fin cfg0.N) :
    (dats m 0 c).after 6 t = blockOut (iblk m c 0 t) (iblk m c 1 t) (iblk m c 2 t) := by
  rw [after0_6]
  unfold outsAt0
  frame_out
  exact canon_stores _ _ _ _

/-- After grid point `t` the V output's block is `blockOut` of the V inputs' blocks. -/
theorem after_v (c : Dev nD) (t : Fin cfg0.N) :
    (dats m 0 c).after 7 t = blockOut (iblk m c 3 t) (iblk m c 4 t) (iblk m c 5 t) := by
  rw [after0_7]
  unfold outsAt0
  frame_out
  exact canon_stores _ _ _ _

end Cert.KvCache

end
-- ==== Proof.Array.lean ====
/-
  WHAT AN OUTPUT ARRAY HOLDS. Every grid point writes its own block back and the blocks tile the array, so the array
  after the run is read off the blocks: the new values at positions below 16 of every head, elsewhere the dequantized
  cache. `arrayOut` is that array over the three merged input arrays; the host's reshapes around the kernel then give
  `cacheOut`, the same over the arguments.
-/
module

public import proofs.«01_k».proof.Proof.Block

@[expose] public section

set_option maxRecDepth 16384

noncomputable section

namespace Cert.KvCache

open Idealize.ShloMosaic Idealize.ShloMosaic.TcCoe
open Cert.KernelIdeal Cert.KernelIdeal.Gen

/-- An output array over the merged inputs: row `r` of the 128 heads of all batches, position `s`, lane `d`. -/
def arrayOut (cache : Vec Ideal S128x2048x128 .i8) (scale : Vec Ideal S8x1x32768 .bf16) (new : Vec Ideal S128x16x128 .f32) :
    Vec Ideal S128x2048x128 .bf16 := fun i =>
  if h : (i 1).val < 16 then new (ix3 (i 0) ⟨(i 1).val, h⟩ (i 2))
  else FloatOps.sitofp (F := Ideal) .bf16 (cache i)
    * scale (ix3 ⟨(i 0).val / 16, by have h0 : (i 0).val < 128 := (i 0).isLt; omega⟩ 0
        ⟨(i 0).val % 16 * 2048 + (i 1).val, by have h1 : (i 1).val < 2048 := (i 1).isLt; omega⟩)

/-- The result over the arguments: batch `b`, head `h`, position `s`, lane `d`; positions below 16 hold the new values,
    the others the cached integer times the scale of its batch, head and position. -/
def cacheOut (cache : Vec Ideal S8x16x2048x128 .i8) (scale : Vec Ideal S8x16x2048x1 .bf16) (new : Vec Ideal S8x16x16x128 .f32) :
    Vec Ideal S8x16x2048x128 .bf16 := fun i =>
  if h : (i 2).val < 16 then new (ix4 (i 0) (i 1) ⟨(i 2).val, h⟩ (i 3))
  else FloatOps.sitofp (F := Ideal) .bf16 (cache i) * scale (ix4 (i 0) (i 1) (i 2) 0)

/-- The array of the merged arguments, its rows split into batches and heads again, is the result over the arguments. -/
theorem arrayOut_reshape (cache : Vec Ideal S8x16x2048x128 .i8) (scale : Vec Ideal S8x16x2048x1 .bf16)
    (new : Vec Ideal S8x16x16x128 .f32) :
    shapeCast S8x16x2048x128
      (arrayOut (shapeCast S128x2048x128 cache shapeCasts_S8x16x2048x128_S128x2048x128)
        (shapeCast S8x1x32768 scale shapeCasts_S8x16x2048x1_S8x1x32768)
        (shapeCast S128x16x128 new shapeCasts_S8x16x16x128_S128x16x128))
      shapeCasts_S128x2048x128_S8x16x2048x128 = cacheOut cache scale new := by
  funext i
  unfold arrayOut cacheOut
  pointwise
  have h1 : (i 1).val < 16 := (i 1).isLt
  have h2 : (i 2).val < 2048 := (i 2).isLt
  have e0 : ((i 0).val * 16 + (i 1).val) / 16 = (i 0).val := by omega
  have e1 : ((i 0).val * 16 + (i 1).val) % 16 = (i 1).val := by omega
  have e2 : ((i 1).val * 2048 + (i 2).val) / 2048 = (i 1).val := by omega
  rw [show cache i = cache (ix4 (i 0) (i 1) (i 2) (i 3)) from congrArg cache (eq_ix4 i)]
  simp only [e0, e1, e2, Fin.eta]
  rfl

/-- A block of the array: where the three input blocks of grid point `t` are the rows `16 t + a` of the cache, the row `t`
    of the scales and the rows `16 t + a` of the new values, the output's block is the rows `16 t + a` of the array. -/
theorem blockOut_eq (cache : Vec Ideal S128x2048x128 .i8) (scale : Vec Ideal S8x1x32768 .bf16) (new : Vec Ideal S128x16x128 .f32)
    (cacheBlk : Vec Ideal S16x2048x128 .i8) (scaleBlk : Vec Ideal S1x1x32768 .bf16) (newBlk : Vec Ideal S16x16x128 .f32) (t : Fin 8)
    (hcache : ∀ a b d, cacheBlk (ix3 a b d) = cache (ix3 ⟨t.val * 16 + a.val, by omega⟩ b d))
    (hscale : ∀ k, scaleBlk (ix3 0 0 k) = scale (ix3 t 0 k))
    (hnew : ∀ a b d, newBlk (ix3 a b d) = new (ix3 ⟨t.val * 16 + a.val, by omega⟩ b d))
    (a : Fin 16) (b : Fin 2048) (d : Fin 128) :
    blockOut cacheBlk scaleBlk newBlk (ix3 a b d) = arrayOut cache scale new (ix3 ⟨t.val * 16 + a.val, by omega⟩ b d) := by
  have e0 : (t.val * 16 + a.val) / 16 = t.val := by omega
  have e1 : (t.val * 16 + a.val) % 16 = a.val := by omega
  unfold blockOut arrayOut
  rw [hcache]
  by_cases h : b.val < 16
  · rw [dif_pos (show (ix3 a b d 1).val < 16 from h),
      dif_pos (show (ix3 (⟨t.val * 16 + a.val, by omega⟩ : Fin 128) b d 1).val < 16 from h)]
    exact hnew _ _ _
  · rw [dif_neg (show ¬(ix3 a b d 1).val < 16 from h),
      dif_neg (show ¬(ix3 (⟨t.val * 16 + a.val, by omega⟩ : Fin 128) b d 1).val < 16 from h)]
    refine congrArg (_ * ·) ((hscale _).trans (congrArg scale ?_))
    simp only [e0, e1, ix3]

/-- At grid point `t` every window's block index is `t` on the leading axis and zero on the others. -/
theorem index_eq (w : Fin cfg0.W) (t : Fin cfg0.N) : ∀ a, (cfg0.win w).index t a = if a.val = 0 then t.val else 0 := by
  revert w t
  decide +kernel

/-- Every window is placed by block index. -/
theorem kind_eq (w : Fin cfg0.W) : (cfg0.win w).kind = .blocked := by
  revert w
  decide +kernel

/-- On the leading axis a block of point `t` begins at `t` times its size … -/
theorem place_lead (w : Fin cfg0.W) (t : Fin cfg0.N) (y : ((cfg0.win w).xblock (cfg0.grid.coords t)).Idx) (a : Fin (cfg0.win w).shape.rank)
    (ha : a.val = 0) : (((cfg0.win w).rect t).emb y a).val = t.val * (cfg0.win w).size a + (y a).val := by
  rw [Pipeline.Window.rect_emb_val (cfg0.win w) t y a (kind_eq w), index_eq w t a, if_pos ha]

/-- … and on the others it begins at zero. -/
theorem place_rest (w : Fin cfg0.W) (t : Fin cfg0.N) (y : ((cfg0.win w).xblock (cfg0.grid.coords t)).Idx) (a : Fin (cfg0.win w).shape.rank)
    (ha : a.val ≠ 0) : (((cfg0.win w).rect t).emb y a).val = (y a).val :=
  Pipeline.Window.rect_emb_val_of_index_zero (cfg0.win w) t a ((index_eq w t a).trans (if_neg ha)) y

/-- The grid has eight points. -/
theorem point_lt (t : Fin cfg0.N) : t.val < 8 := lt_of_lt_of_eq t.isLt N_0

/-- An index of a rank-3 array by its coordinates. -/
theorem idx_ext {n0 n1 n2 : Nat} {i : (⟨3, ![n0, n1, n2]⟩ : Shape).Idx} {a : Fin n0} {b : Fin n1} {c : Fin n2}
    (h0 : (i 0).val = a.val) (h1 : (i 1).val = b.val) (h2 : (i 2).val = c.val) : i = ix3 a b c := by
  funext x
  match x with
  | ⟨0, _⟩ => exact Fin.ext h0
  | ⟨1, _⟩ => exact Fin.ext h1
  | ⟨2, _⟩ => exact Fin.ext h2

variable (m : (ℓ : Loc nD τ sig) → Buf (Elt Ideal) ℓ) (c : Dev nD)

/-- The K output's array after the run, over the merged K cache, scales and new values. -/
theorem array_k : (dats m 0 c).arrAt 6 cfg0.N = arrayOut (V m c main_v0) (V m c main_v2) (V m c main_v4) := by
  refine (dats m 0 c).arrAt_eq_of_covers 6 _ (by decide +kernel) fun t _ y => ?_
  blk_simp
  rw [after_k]
  refine (congrArg _ (eq_ix3 y)).trans ((blockOut_eq (V m c main_v0) (V m c main_v2) (V m c main_v4) _ _ _ ⟨t.val, point_lt t⟩
    (fun a b d => congrArg (V m c main_v0)
      (idx_ext (place_lead 0 t _ 0 rfl) (place_rest 0 t _ 1 (by decide)) (place_rest 0 t _ 2 (by decide))))
    (fun k => congrArg (V m c main_v2)
      (idx_ext ((place_lead 1 t _ 0 rfl).trans (Nat.mul_one _)) (place_rest 1 t _ 1 (by decide)) (place_rest 1 t _ 2 (by decide))))
    (fun a b d => congrArg (V m c main_v4)
      (idx_ext (place_lead 2 t _ 0 rfl) (place_rest 2 t _ 1 (by decide)) (place_rest 2 t _ 2 (by decide))))
    (y 0) (y 1) (y 2)).trans (congrArg _ (Eq.symm
      (idx_ext (place_lead 6 t _ 0 rfl) (place_rest 6 t _ 1 (by decide)) (place_rest 6 t _ 2 (by decide))))))

/-- The V output's array after the run, over the merged V cache, scales and new values. -/
theorem array_v : (dats m 0 c).arrAt 7 cfg0.N = arrayOut (V m c main_v1) (V m c main_v3) (V m c main_v5) := by
  refine (dats m 0 c).arrAt_eq_of_covers 7 _ (by decide +kernel) fun t _ y => ?_
  blk_simp
  rw [after_v]
  refine (congrArg _ (eq_ix3 y)).trans ((blockOut_eq (V m c main_v1) (V m c main_v3) (V m c main_v5) _ _ _ ⟨t.val, point_lt t⟩
    (fun a b d => congrArg (V m c main_v1)
      (idx_ext (place_lead 3 t _ 0 rfl) (place_rest 3 t _ 1 (by decide)) (place_rest 3 t _ 2 (by decide))))
    (fun k => congrArg (V m c main_v3)
      (idx_ext ((place_lead 4 t _ 0 rfl).trans (Nat.mul_one _)) (place_rest 4 t _ 1 (by decide)) (place_rest 4 t _ 2 (by decide))))
    (fun a b d => congrArg (V m c main_v5)
      (idx_ext (place_lead 5 t _ 0 rfl) (place_rest 5 t _ 1 (by decide)) (place_rest 5 t _ 2 (by decide))))
    (y 0) (y 1) (y 2)).trans (congrArg _ (Eq.symm
      (idx_ext (place_lead 7 t _ 0 rfl) (place_rest 7 t _ 1 (by decide)) (place_rest 7 t _ 2 (by decide))))))

end Cert.KvCache

end
-- ==== Proof.Result.lean ====
/-
  WHAT A RUN OF THE KERNEL RETURNS. The host merges heads into rows before the kernel and splits them again after it; the
  two results are `cacheOut` over the arguments, and the arguments are unchanged.
-/
module

public import proofs.«01_k».proof.Proof.Array
public import Idealize.ShloMosaic.Lib.Claim

@[expose] public section

set_option maxRecDepth 16384

noncomputable section

namespace Cert.KvCache

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The K result, over the arguments. -/
theorem tail_k : Pipeline.afterTail₀ cfgs (dats m) 0 (V0 m) [hostOps1] c main_v7 =
    cacheOut (m ((c.tc : Thread nD τ).loc main_arg3)) (m ((c.tc : Thread nD τ).loc main_arg5)) (m ((c.tc : Thread nD τ).loc main_arg1)) := by
  unfold Pipeline.afterTail₀
  simp only [List.flatten_cons, List.flatten_nil, List.append_nil]
  after_results
  refine Eq.trans (congrArg (fun x => shapeCast S8x16x2048x128 x shapeCasts_S128x2048x128_S8x16x2048x128)
    ((Pipeline.withArrays_arr spec0 (by decide) c _ _ 6).trans (array_k m c))) ?_
  entry_read
  exact arrayOut_reshape _ _ _

/-- The V result, over the arguments. -/
theorem tail_v : Pipeline.afterTail₀ cfgs (dats m) 0 (V0 m) [hostOps1] c main_v8 =
    cacheOut (m ((c.tc : Thread nD τ).loc main_arg4)) (m ((c.tc : Thread nD τ).loc main_arg6)) (m ((c.tc : Thread nD τ).loc main_arg2)) := by
  unfold Pipeline.afterTail₀
  simp only [List.flatten_cons, List.flatten_nil, List.append_nil]
  after_results
  refine Eq.trans (congrArg (fun x => shapeCast S8x16x2048x128 x shapeCasts_S128x2048x128_S8x16x2048x128)
    ((Pipeline.withArrays_arr spec0 (by decide) c _ _ 7).trans (array_v m c))) ?_
  entry_read
  exact arrayOut_reshape _ _ _

/-- Every execution of the kernel's program ends with the two results of `cacheOut` and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v7) =
        cacheOut (m ((c.tc : Thread nD τ).loc main_arg3)) (m ((c.tc : Thread nD τ).loc main_arg5)) (m ((c.tc : Thread nD τ).loc main_arg1))
      ∧ r.2.mem ((c.tc : Thread nD τ).loc main_v8) =
        cacheOut (m ((c.tc : Thread nD τ).loc main_arg4)) (m ((c.tc : Thread nD τ).loc main_arg6)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨((h.1 c).2 main_v7 (Pipeline.mem_restRefs_of main_v7 (by decide) (by decide))).trans (tail_k m c),
        ((h.1 c).2 main_v8 (Pipeline.mem_restRefs_of main_v8 (by decide) (by decide))).trans (tail_v m c), h.2 c⟩)
    (θ_run_and (run_main m ρ) (unchanged m ρ))

end Cert.KvCache

end
-- ==== Proof.Reference.lean ====
/-
  WHAT THE REFERENCE COMPUTES. It writes the quantized new values and their scales into the caches at the rows that
  `input_pos` names, multiplies, and writes the new values themselves over the same rows. For `input_pos = 0, 1, …, 15`
  the rows are the first 16 of every head: the last write decides them, and the earlier two leave the other rows alone.
  So the result is `cacheOut`.
-/
module

public import proofs.«01_k».proof.Proof.Array
public import proofs.«01_k».proof.Proof.Gen.ReferenceIdeal.Run
public import Idealize.ShloMosaic.Lib.Routing.OpsSet
public import Idealize.ShloMosaic.Lib.Routing.OpsPair

@[expose] public section

set_option maxRecDepth 16384

noncomputable section

namespace Cert.KvCache

open Idealize.ShloMosaic Idealize.ShloMosaic.TcCoe Idealize.ShloMosaic.Routing Idealize.SL.Sem
open Cert.ReferenceIdeal Cert.ReferenceIdeal.Gen

/-- The dimension numbers of the writes into the caches, `n` lanes to a row (128, and one for the scales): update
    `(b, h, p, d)` goes to row `idx[p]` of batch `b` and head `h`, lane `d`. -/
def rowDims {n : Nat} (wf : ScatterDims.WF ⟨4, ![8, 16, 2048, n]⟩ S16x1 ⟨4, ![8, 16, 16, n]⟩ [0, 1, 3] [2] [2] 1) :
    ScatterDims ⟨4, ![8, 16, 2048, n]⟩ S16x1 ⟨4, ![8, 16, 16, n]⟩ where
  updateWindowDims := [0, 1, 3]
  insertedWindowDims := [2]
  scatterDimsToOperandDims := [2]
  indexVectorDim := 1
  wf := wf

/-- The row indices `0, 1, …, 15`. -/
def FromZero (idx : IVec S16x1 32) : Prop := ∀ p : Fin 16, (idx (ix2 p 0)).toInt = (p.val : Int)

section
variable {n : Nat} (wf : ScatterDims.WF ⟨4, ![8, 16, 2048, n]⟩ S16x1 ⟨4, ![8, 16, 16, n]⟩ [0, 1, 3] [2] [2] 1)
  {idx : IVec S16x1 32} (hidx : FromZero idx)
include hidx

/-- Where an update lands: at its own batch, head and lane, in the row of its own number. -/
theorem lands_iff (j : (⟨4, ![8, 16, 16, n]⟩ : Shape).Idx) (i : (⟨4, ![8, 16, 2048, n]⟩ : Shape).Idx) :
    (rowDims wf).resultIdx? j idx = some i ↔ ∀ a : Fin 4, (j a).val = (i a).val := by
  have start_row : (rowDims wf).start j idx 2 = ((j 2).val : Int) := by
    unfold ScatterDims.start
    rw [dif_pos (show (2 : Fin 4) ∈ (rowDims wf).scatterDimsToOperandDims from List.mem_singleton.2 rfl)]
    refine (congrArg (fun x => (idx x).toInt) (funext fun a => ?_)).trans (hidx (j 2))
    match a with
    | ⟨0, _⟩ => rfl
    | ⟨1, _⟩ => rfl
  have start_rest : ∀ a : Fin 4, a.val ≠ 2 → (rowDims wf).start j idx a = 0 := fun a ha => by
    unfold ScatterDims.start
    rw [dif_neg (show ¬a ∈ (rowDims wf).scatterDimsToOperandDims from fun h => ha (congrArg Fin.val (List.mem_singleton.1 h)))]
  rw [resultIdx?_eq_some]
  refine forall_congr' fun a => ?_
  match a with
  | ⟨0, _⟩ =>
    rw [start_rest _ (show 0 ≠ 2 by decide), show (rowDims wf).window j ⟨0, _⟩ = (j 0).val from rfl, Int.zero_add]
    exact Int.ofNat_inj
  | ⟨1, _⟩ =>
    rw [start_rest _ (show 1 ≠ 2 by decide), show (rowDims wf).window j ⟨1, _⟩ = (j 1).val from rfl, Int.zero_add]
    exact Int.ofNat_inj
  | ⟨2, _⟩ =>
    rw [show (rowDims wf).window j ⟨2, _⟩ = 0 from rfl]
    exact (iff_of_eq (congrArg (· = _) ((Int.add_zero _).trans start_row))).trans Int.ofNat_inj
  | ⟨3, _⟩ =>
    rw [start_rest _ (show 3 ≠ 2 by decide), show (rowDims wf).window j ⟨3, _⟩ = (j 3).val from rfl, Int.zero_add]
    exact Int.ofNat_inj

/-- A write leaves the rows from 16 on alone. -/
theorem write_miss {α : Type} (x : (⟨4, ![8, 16, 2048, n]⟩ : Shape).Idx → α) (upd : (⟨4, ![8, 16, 16, n]⟩ : Shape).Idx → α)
    (i : (⟨4, ![8, 16, 2048, n]⟩ : Shape).Idx) (h : ¬(i 2).val < 16) :
    Host.scatter (rowDims wf) (fun _ b => b) x idx upd i = x i :=
  scatter_set_miss _ _ _ _ _ fun j hj => h (lt_of_eq_of_lt ((lands_iff wf hidx j i).1 hj 2).symm (j 2).isLt)

/-- A write puts update row `s` in row `s`, for `s` below 16. -/
theorem write_hit {α : Type} (x : (⟨4, ![8, 16, 2048, n]⟩ : Shape).Idx → α) (upd : (⟨4, ![8, 16, 16, n]⟩ : Shape).Idx → α)
    (i : (⟨4, ![8, 16, 2048, n]⟩ : Shape).Idx) (h : (i 2).val < 16) :
    Host.scatter (rowDims wf) (fun _ b => b) x idx upd i = upd (ix4 (i 0) (i 1) ⟨(i 2).val, h⟩ (i 3)) := by
  refine scatter_set_hit _ _ _ _ _ _ (fun j hj => congrArg upd (funext fun a => Fin.ext ?_)) (ix4 (i 0) (i 1) ⟨(i 2).val, h⟩ (i 3))
    ((lands_iff wf hidx _ i).2 fun a => ?_)
  · have e := (lands_iff wf hidx j i).1 hj a
    match a with
    | ⟨0, _⟩ => exact e
    | ⟨1, _⟩ => exact e
    | ⟨2, _⟩ => exact e
    | ⟨3, _⟩ => exact e
  · match a with
    | ⟨0, _⟩ => rfl
    | ⟨1, _⟩ => rfl
    | ⟨2, _⟩ => rfl
    | ⟨3, _⟩ => rfl

end

/-- Widening an 8-bit integer to 32 bits first changes nothing: both are the integer itself. -/
theorem sitofp_widen (x : BitVec 8) :
    FloatOps.sitofp (F := Ideal) .bf16 (x.signExtend 32) = FloatOps.sitofp (F := Ideal) .bf16 x := by
  show (((x.signExtend 32).toInt : ℝ) : EReal) = ((x.toInt : ℝ) : EReal)
  rw [BitVec.toInt_signExtend_of_le (by decide)]

/-- The reference's result for one of the two caches, whatever the quantized values `q` and their scales `s` are. -/
theorem reference_eq {idx : IVec S16x1 32} (hidx : FromZero idx) (cache : Vec Ideal S8x16x2048x128 .i8)
    (scale : Vec Ideal S8x16x2048x1 .bf16) (new : Vec Ideal S8x16x16x128 .f32) (q : Vec Ideal S8x16x16x128 .i8)
    (s : Vec Ideal S8x16x16x1 .bf16) :
    Host.scatter scatter_S8x16x2048x128_S16x1_S8x16x16x128_013_2_2_1 (fun _ b => b)
      (mulf (F := Ideal) (sitofp .bf16 (extsi 32 (Host.scatter scatter_S8x16x2048x128_S16x1_S8x16x16x128_013_2_2_1 (fun _ b => b) cache idx q) Facts₀.natLt_8_32))
        (broadcastInDim S8x16x2048x128 ![0, 1, 2, 3] Facts₀.bcast_S8x16x2048x1_S8x16x2048x128_0_1_2_3
          (Host.scatter scatter_S8x16x2048x1_S16x1_S8x16x16x1_013_2_2_1 (fun _ b => b) scale idx s)))
      idx (truncf (F := Ideal) .bf16 new Facts₀.bitsLt_bf16_f32) = cacheOut cache scale new := by
  funext i
  unfold cacheOut
  by_cases h : (i 2).val < 16
  · rw [dif_pos h]
    exact write_hit Facts₀.scatter_S8x16x2048x128_S16x1_S8x16x16x128_013_2_2_1_wf hidx _ _ i h
  · rw [dif_neg h]
    refine (write_miss Facts₀.scatter_S8x16x2048x128_S16x1_S8x16x16x128_013_2_2_1_wf hidx _ _ i h).trans ?_
    refine congrArg₂ (· * ·) ((congrArg (fun x : BitVec 8 => FloatOps.sitofp (F := Ideal) .bf16 (x.signExtend 32))
      (write_miss Facts₀.scatter_S8x16x2048x128_S16x1_S8x16x16x128_013_2_2_1_wf hidx _ _ i h)).trans (sitofp_widen _)) ?_
    refine (congrArg (Host.scatter scatter_S8x16x2048x1_S16x1_S8x16x16x1_013_2_2_1 (fun _ b => b) scale idx s) (a₂ := ix4 (i 0) (i 1) (i 2) 0)
      (funext fun a => ?_)).trans (write_miss Facts₀.scatter_S8x16x2048x1_S16x1_S8x16x16x1_013_2_2_1_wf hidx _ _ _ h)
    match a with
    | ⟨0, _⟩ => rfl
    | ⟨1, _⟩ => rfl
    | ⟨2, _⟩ => rfl
    | ⟨3, _⟩ => rfl

/-- Where `input_pos` is `0, 1, …, 15`, the row indices the reference makes of it (a negative one counted from the end)
    are too. -/
theorem rows_from_zero (pos : IVec S16 32) (h : pos = iotaInDim S16 32 0) :
    FromZero (broadcastInDim S16x1 ![0] Facts₀.bcast_S16_S16x1_0
      (select (cmpi .slt pos (broadcastInDim S16 ![] Facts₀.bcast_S_S16 (constantI S_ 32 0#32)))
        (addi pos (broadcastInDim S16 ![] Facts₀.bcast_S_S16 (constantI S_ 32 2048#32))) pos)) := by
  subst h
  intro p
  revert p
  decide +kernel

/-- Every execution of the reference's program from `input_pos = 0, 1, …, 15` ends with the two results of `cacheOut` and
    the arguments unchanged. -/
theorem reference_run (m : (ℓ : Loc nD τ sig) → Buf (Elt Ideal) ℓ) (ρ : Dev nD → PrngReg)
    (hpos : ∀ c : Dev nD, m ((c.tc : Thread nD τ).loc main_arg0) = iotaInDim S16 32 0) :
    θ_run defs (onTc (τ := τ) (main (F := Ideal))) ⟨m, fun _ => 0, ρ⟩ (fun r => ∀ c : Dev nD,
      r.2.mem ((c.tc : Thread nD τ).loc main_v40) =
        cacheOut (m ((c.tc : Thread nD τ).loc main_arg3)) (m ((c.tc : Thread nD τ).loc main_arg5)) (m ((c.tc : Thread nD τ).loc main_arg1))
      ∧ r.2.mem ((c.tc : Thread nD τ).loc main_v81) =
        cacheOut (m ((c.tc : Thread nD τ).loc main_arg4)) (m ((c.tc : Thread nD τ).loc main_arg6)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c).1.trans (reference_eq (rows_from_zero _ (hpos c)) _ _ _ _ _),
        (h c).2.1.trans (reference_eq (rows_from_zero _ (hpos c)) _ _ _ _ _), (h c).2.2⟩)
    (Cert.ReferenceIdeal.Value.run m ρ)

end Cert.KvCache

end
-- ==== Proof.lean ====
/-
  THE CLAIMS. The three programs run, leave their arguments and every counter as they were (the frames); and for
  `input_pos = 0, 1, …, 15` the kernel and the reference return the same two arrays, each `cacheOut` of its cache, scales
  and new values (Result.lean for the kernel, Reference.lean for the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Lib.Quiescent
public import Idealize.ShloMosaic.Lib.Affine
public import Idealize.ShloMosaic.Adequacy
public import Idealize.ShloMosaic.Init

@[expose] public section

noncomputable section

namespace Cert.Proof

open Idealize.ShloMosaic Idealize.SL.Sem Cert.KvCache

/-- The precondition, as an equation of arrays. -/
theorem positions_eq (pos : IVec Cert.Pre_positions_from_zero.S16 32)
    (h : cmpi .eq pos (iotaInDim Cert.Pre_positions_from_zero.S16 32 0) = fun _ => 1#1) :
    pos = iotaInDim Cert.Pre_positions_from_zero.S16 32 0 :=
  funext fun i => IntOp.cmpi_eq.1 (congrFun h i)

/-- The reference's frame, whatever its arguments hold. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The value claim: both results of the kernel are the reference's. -/
theorem value : Cert.algebraic_KernelIdeal_ReferenceIdeal_pre_positions_from_zero
    (hKernelIdeal := Cert.KernelIdeal.Gen.facts) (hReferenceIdeal := Cert.ReferenceIdeal.Gen.facts)
    (hPre_positions_from_zero := ⟨⟩) := fun m g m' g' hpre hargs =>
  ⟨_, _, kernel_run m g, (θ_run Cert.ReferenceIdeal.defs _ _).mono
    (fun r h c => by
      obtain ⟨-, e1, e2, e3, e4, e5, e6⟩ := hargs c
      obtain ⟨hk, hv, hrest⟩ := h c
      rw [e1, e3, e5] at hk
      rw [e2, e4, e6] at hv
      exact ⟨hk, hv, hrest⟩)
    (reference_run m' g' fun c => (hargs c).1.trans (positions_eq _ (hpre c)))⟩

theorem claim : Cert.Claim :=
  ⟨Cert.Kernel.Gen.facts, Cert.KernelIdeal.Gen.facts, Cert.ReferenceIdeal.Gen.facts, ⟨⟩,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, value⟩

end Cert.Proof

end
